-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S1024x256 : Shape := ⟨2, ![1024, 256]⟩
abbrev S_ : Shape := ⟨0, ![]⟩

class Facts : Prop where
  bcast_S_S16384x256 : S_.BroadcastsInDim S16384x256 (![] : Fin 0 → Fin S16384x256.rank)
  bcast_S_S1024x256 : S_.BroadcastsInDim S1024x256 (![] : Fin 0 → Fin S1024x256.rank)

variable [Facts]

def fn {F : FTy → Type} [FloatOps F] (main_arg0 : FVec F S16384x256 .f32) (main_arg1 : FVec F S1024x256 .f32) : IVec S16384x256 1 × IVec S1024x256 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S1024x256 .f32 := Host.absf main_arg1
  let main_cst_0 : FVec F S_ .f32 := constant S_ .f32 0x7F800000#32
  let main_v4 : FVec F S1024x256 .f32 := broadcastInDim S1024x256 ![] bcast_S_S1024x256 main_cst_0
  let main_v5 : IVec S1024x256 1 := cmpf .olt main_v3 main_v4
  (main_v2, main_v5)
-- ==== Kernel.lean ====
abbrev S16384x256 : Shape := ⟨2, ![16384, 256]⟩
abbrev S1024x256 : Shape := ⟨2, ![1024, 256]⟩
abbrev S4x1x4096 : Shape := ⟨3, ![4, 1, 4096]⟩
abbrev S4x1x1 : Shape := ⟨3, ![4, 1, 1]⟩
abbrev S4096x256 : Shape := ⟨2, ![4096, 256]⟩
abbrev S1x1x4096 : Shape := ⟨3, ![1, 1, 4096]⟩
abbrev S1x1x1 : Shape := ⟨3, ![1, 1, 1]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S1x4096x256 : Shape := ⟨3, ![1, 4096, 256]⟩
abbrev S1 : Shape := ⟨1, ![1]⟩
abbrev S16384 : Shape := ⟨1, ![16384]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S4x1x4096, .i32⟩
  | .hbm, ⟨3, _⟩ => ⟨S4x1x1, .f32⟩
  | .hbm, ⟨4, _⟩ => ⟨S16384, .i32⟩
  | .hbm, ⟨5, _⟩ => ⟨S_, .f32⟩
  | .hbm, ⟨6, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S1024x256, .f32⟩
  | .local _ .vmem, ⟨3, _⟩ => ⟨S1x1x4096, .i32⟩
  | .local _ .vmem, ⟨4, _⟩ => ⟨S1x1x4096, .i32⟩
  | .local _ .vmem, ⟨5, _⟩ => ⟨S1x1x1, .f32⟩
  | .local _ .vmem, ⟨6, _⟩ => ⟨S1x1x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x256 : Shape := ⟨2, ![16384, 256]⟩
abbrev S1024x256 : Shape := ⟨2, ![1024, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S256x1024 : Shape := ⟨2, ![256, 1024]⟩
abbrev S16384x1024 : Shape := ⟨2, ![16384, 1024]⟩
abbrev S1x1024 : Shape := ⟨2, ![1, 1024]⟩
abbrev S1 : Shape := ⟨1, ![1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x256, .f32⟩
  | .hbm, ⟨7, _⟩ => ⟨S_, .f32⟩
  | .hbm, ⟨8, _⟩ => ⟨S1024, .f32⟩
  | .hbm, ⟨9, _⟩ => ⟨S256x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S1, .i32⟩
  | .hbm, ⟨33, _⟩ => ⟨S_, .i32⟩
  | .hbm, ⟨34, _⟩ => ⟨S16384x1, .i32⟩
  | .hbm, ⟨35, _⟩ => ⟨S16384x1, .i1⟩
  | .hbm, ⟨36, _⟩ => ⟨S1x1, .i32⟩
  | .hbm, ⟨37, _⟩ => ⟨S16384x1, .i32⟩
  | .hbm, ⟨38, _⟩ => ⟨S16384x1, .i1⟩
  | .hbm, ⟨39, _⟩ => ⟨S16384x1, .i1⟩
  | .hbm, ⟨40, _⟩ => ⟨S_, .i1⟩
  | .hbm, ⟨41, _⟩ => ⟨S16384, .i1⟩
  | .hbm, ⟨42, _⟩ => ⟨S16384x256, .f32⟩
  | .hbm, ⟨43, _⟩ => ⟨S16384x256, .i1⟩
  | .hbm, ⟨44, _⟩ => ⟨S_, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩

abbrev nD : Nat := 1
abbrev τ : Topo := Topo.v7x

variable {F : FTy → Type} [FloatOps F]
-- ==== Proof.ReferenceRun.lean ====
/- The run of the reference: it is a straight line of host operations (two calls unfolded), so it ends with every
   buffer at what those operations compute from the arguments as launched. The three stages — the table of distances,
   the labels, the loss — are named here; what they compute is read off in later modules. -/
module

public import proofs.«01_k».proof.Defs
public import proofs.«01_k».proof.Proof.Gen.ReferenceIdeal
public import Idealize.ShloMosaic.Lib.StableHlo.Run
public import Idealize.ShloMosaic.Lib.Quiescent
public import Idealize.ShloMosaic.Lib.Claim

@[expose] public section

noncomputable section

namespace Cert.Ref

open Idealize.ShloMosaic Idealize.ShloMosaic.TcCoe Idealize.ShloMosaic.StableHlo Idealize.SL.Sem
open Cert.ReferenceIdeal Cert.ReferenceIdeal.Gen

variable {F : FTy → Type} [FloatOps F]

/-- The table of squared distances, row by centre: `|e|² - 2 e·c + |c|²`. -/
def dist (e : FVec F S16384x256 .f32) (c : FVec F S1024x256 .f32) : FVec F S16384x1024 .f32 :=
  addf
    (subf
      (broadcastInDim S16384x1024 ![0, 1] bcast_S16384x1_S16384x1024_0_1
        (broadcastInDim S16384x1 ![0] bcast_S16384_S16384x1_0
          (Host.reduceAdd (mulf e e) (constant S_ .f32 0x00000000#32) reducesTo_S16384x256_S16384_d1 h_S_)))
      (mulf (broadcastInDim S16384x1024 ![] bcast_S_S16384x1024 (constant S_ .f32 0x40000000#32))
        (Host.dotGeneral dot_S16384x256_S256x1024_S16384x1024_1_0_0_1_n_n none e
          (transpose S256x1024 [1, 0] c transposes_S1024x256_S256x1024_1_0))))
    (broadcastInDim S16384x1024 ![0, 1] bcast_S1x1024_S16384x1024_0_1
      (broadcastInDim S1x1024 ![1] bcast_S1024_S1x1024_1
        (Host.reduceAdd (mulf c c) (constant S_ .f32 0x00000000#32) reducesTo_S1024x256_S1024_d1 h_S_)))

/-- The place of the least entry of each row of a table. -/
def labels (d : FVec F S16384x1024 .f32) : IVec S16384 32 := fun j =>
  (Host.argReduce reducer_argmin_f32_i32 d (iotaInDim S16384x1024 32 1) (constant S_ .f32 0x7F800000#32)
    (constantI S_ 32 0#32) reducesTo_S16384x1024_S16384_d1 h_S_ j).2

/-- A label below zero counted from the end, then as a column: the row numbers the gather is given. -/
def rowsOf (l : IVec S16384 32) : IVec S16384x1 32 :=
  broadcastInDim S16384x1 ![0] bcast_S16384_S16384x1_0
    (select (cmpi .slt l (broadcastInDim S16384 ![] bcast_S_S16384 (constantI S_ 32 0#32)))
      (addi l (broadcastInDim S16384 ![] bcast_S_S16384 (constantI S_ 32 1024#32))) l)

/-- Whether each row number is inside the table of centres. -/
def inside (i : IVec S16384x1 32) : IVec S16384 1 :=
  Host.reduce IntOp.andi
    (andi (cmpi .sge i (broadcastInDim S16384x1 ![] bcast_S_S16384x1 (constantI S_ 32 0#32)))
      (cmpi .sle i
        (broadcastInDim S16384x1 ![0, 1] bcast_S1x1_S16384x1_0_1
          (broadcastInDim S1x1 ![1] bcast_S1_S1x1_1 (constantI S1 32 1023#32)))))
    (constantI S_ 1 1#1) reducesTo_S16384x1_S16384_d1 h_S_

/-- The centre each row's label names. -/
def taken (c : FVec F S1024x256 .f32) (l : IVec S16384 32) : FVec F S16384x256 .f32 :=
  select (broadcastInDim S16384x256 ![0] bcast_S16384_S16384x256_0 (inside (rowsOf l)))
    (Host.gather gather_S1024x256_S16384x1_S16384x256_1_0_n_n_0_1_1256 c (rowsOf l))
    (broadcastInDim S16384x256 ![] bcast_S_S16384x256 (constant S_ .f32 0x7FC00000#32))

/-- The mean over the rows of the squared distance of two tables. -/
def meanSquare (e g : FVec F S16384x256 .f32) : FVec F S_ .f32 :=
  Host.divf
    (Host.reduceAdd (mulf (subf e g) (subf e g)) (constant S_ .f32 0x00000000#32) reducesTo_S16384x256_S_d0_1 h_S_)
    (constant S_ .f32 0x46800000#32)

/-- The operations of the distances. -/
abbrev opsDist : List (HloOp τ sig (Elt F)) :=
  [ binary main_arg0 main_arg0 main_v0 mulf,
    nullary main_cst (constant S_ .f32 0x00000000#32),
    binary main_v0 main_cst main_v1 (fun x v => Host.reduceAdd x v reducesTo_S16384x256_S16384_d1 h_S_),
    unary main_v1 main_v2 (broadcastInDim S16384x1 ![0] bcast_S16384_S16384x1_0),
    binary main_arg1 main_arg1 main_v3 mulf,
    nullary main_cst_0 (constant S_ .f32 0x00000000#32),
    binary main_v3 main_cst_0 main_v4 (fun x v => Host.reduceAdd x v reducesTo_S1024x256_S1024_d1 h_S_),
    unary main_arg1 main_v5 (transpose S256x1024 [1, 0] · transposes_S1024x256_S256x1024_1_0),
    binary main_arg0 main_v5 main_v6 (fun l r => Host.dotGeneral dot_S16384x256_S256x1024_S16384x1024_1_0_0_1_n_n none l r),
    nullary main_cst_1 (constant S_ .f32 0x40000000#32),
    unary main_cst_1 main_v7 (broadcastInDim S16384x1024 ![] bcast_S_S16384x1024),
    binary main_v7 main_v6 main_v8 mulf,
    unary main_v2 main_v9 (broadcastInDim S16384x1024 ![0, 1] bcast_S16384x1_S16384x1024_0_1),
    binary main_v9 main_v8 main_v10 subf,
    unary main_v4 main_v11 (broadcastInDim S1x1024 ![1] bcast_S1024_S1x1024_1),
    unary main_v11 main_v12 (broadcastInDim S16384x1024 ![0, 1] bcast_S1x1024_S16384x1024_0_1),
    binary main_v10 main_v12 main_v13 addf ]

/-- of the labels (a call unfolded). -/
abbrev opsLabels : List (HloOp τ sig (Elt F)) :=
  [ TRef.nullary main_call0.v0 (iotaInDim S16384x1024 32 1),
    TRef.nullary main_call0.cst (constant S_ .f32 0x7F800000#32),
    TRef.nullary main_call0.c (constantI S_ 32 0#32),
    TRef.quaternary (.of main_v13) main_call0.v0 main_call0.cst main_call0.c main_call0.v1_0 (fun x y u v j =>
      (Host.argReduce reducer_argmin_f32_i32 x y u v reducesTo_S16384x1024_S16384_d1 h_S_ j).1),
    TRef.quaternary (.of main_v13) main_call0.v0 main_call0.cst main_call0.c main_call0.v1_1 (fun x y u v j =>
      (Host.argReduce reducer_argmin_f32_i32 x y u v reducesTo_S16384x1024_S16384_d1 h_S_ j).2) ]

/-- of the centres taken (two calls unfolded). -/
abbrev opsTake : List (HloOp τ sig (Elt F)) :=
  [ TRef.nullary main_call1.c (constantI S_ 32 0#32),
    TRef.unary main_call1.c main_call1.v0 (broadcastInDim S16384 ![] bcast_S_S16384),
    TRef.binary (.of main_v14) main_call1.v0 main_call1.v1 (cmpi .slt),
    TRef.nullary main_call1.c_0 (constantI S_ 32 1024#32),
    TRef.unary main_call1.c_0 main_call1.v2 (broadcastInDim S16384 ![] bcast_S_S16384),
    TRef.binary (.of main_v14) main_call1.v2 main_call1.v3 addi,
    TRef.ternary main_call1.v1 main_call1.v3 (.of main_v14) main_call1.call0.v0 select,
    TRef.unary main_call1.call0.v0 main_call1.v5 (broadcastInDim S16384x1 ![0] bcast_S16384_S16384x1_0),
    TRef.nullary main_call1.c_1 (constantI S1 32 1023#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg1) main_call1.v5 main_call1.v13 (fun x i => Host.gather gather_S1024x256_S16384x1_S16384x256_1_0_n_n_0_1_1256 x i),
    TRef.unary main_call1.v12 main_call1.v14 (broadcastInDim S16384x256 ![0] bcast_S16384_S16384x256_0),
    TRef.nullary main_call1.cst (constant S_ .f32 0x7FC00000#32),
    TRef.unary main_call1.cst main_call1.v15 (broadcastInDim S16384x256 ![] bcast_S_S16384x256),
    TRef.ternary main_call1.v14 main_call1.v13 main_call1.v15 main_call1.v16 select ]

/-- and of the loss. -/
abbrev opsLoss : List (HloOp τ sig (Elt F)) :=
  [ binary main_arg0 main_v15 main_v16 subf,
    binary main_v16 main_v16 main_v17 mulf,
    nullary main_cst_2 (constant S_ .f32 0x00000000#32),
    binary main_v17 main_cst_2 main_v18 (fun x v => Host.reduceAdd x v reducesTo_S16384x256_S_d0_1 h_S_),
    nullary main_cst_3 (constant S_ .f32 0x46800000#32),
    binary main_v18 main_cst_3 main_v19 Host.divf ]

/-- The reference's operations in order. -/
abbrev ops : List (HloOp τ sig (Elt F)) :=
  opsDist ++ (opsLabels ++ (opsTake ++ opsLoss))

set_option maxRecDepth 1024 in
/-- The program is that line: the functions unfolded at their calls, sequencing reassociated. -/
theorem main_line (c : Dev nD) : main (F := F) c = seq ops := by
  simp only [main, fn_argmin.body, fn_where.body, fn_take.body, List.cons_append, List.nil_append, seq, bind_assoc, pure_bind]
  rfl

theorem no_scoped_refs : (Finset.univ.filter fun b : Ref sig .tc => b.isScoped) = ∅ := by decide
theorem no_scoped_sems : (Finset.univ.filter fun sm : SemLoc sig => sm.isScoped .tc) = ∅ := by decide

theorem ops_inside : (ops : List (HloOp τ sig (Elt F))).Forall fun op => op.bufs ⊆ tcRefs τ sig :=
  ⟨binary_bufs_sub .., nullary_bufs_sub .., binary_bufs_sub .., unary_bufs_sub .., binary_bufs_sub .., nullary_bufs_sub ..,
    binary_bufs_sub .., unary_bufs_sub .., binary_bufs_sub .., nullary_bufs_sub .., unary_bufs_sub .., binary_bufs_sub ..,
    unary_bufs_sub .., binary_bufs_sub .., unary_bufs_sub .., unary_bufs_sub .., binary_bufs_sub .., nullary_bufs_sub ..,
    nullary_bufs_sub .., nullary_bufs_sub .., quaternary_bufs_sub .., quaternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., binary_bufs_sub .., nullary_bufs_sub ..,
    binary_bufs_sub .., nullary_bufs_sub .., binary_bufs_sub ..⟩

variable (V : Valuation τ sig (Elt F))

/-! ### Each stage, from any contents -/

theorem dist_after : after opsDist V (main_v13 : DevRef τ sig)
    = dist (V (main_arg0 : DevRef τ sig)) (V (main_arg1 : DevRef τ sig)) := by
  after_results_simp
  rfl

theorem labels_after : after opsLabels V (main_v14 : DevRef τ sig) = labels (V (main_v13 : DevRef τ sig)) := by
  after_results_simp
  rfl

theorem take_after : after opsTake V (main_v15 : DevRef τ sig)
    = taken (V (main_arg1 : DevRef τ sig)) (V (main_v14 : DevRef τ sig)) := by
  after_results_simp
  simp only [TRef.toBuf, TRef.ofBuf, cast_eq]
  rfl

theorem loss_after : after opsLoss V (main_v19 : DevRef τ sig)
    = meanSquare (V (main_arg0 : DevRef τ sig)) (V (main_v15 : DevRef τ sig)) := by
  after_results_simp
  rfl

/-! ### What each stage leaves alone -/

theorem dist_arg0 : after opsDist V (main_arg0 : DevRef τ sig) = V (main_arg0 : DevRef τ sig) := by
  simp only [after_cons, after_nil]; rfl
theorem dist_arg1 : after opsDist V (main_arg1 : DevRef τ sig) = V (main_arg1 : DevRef τ sig) := by
  simp only [after_cons, after_nil]; rfl
theorem labels_arg0 : after opsLabels V (main_arg0 : DevRef τ sig) = V (main_arg0 : DevRef τ sig) := by
  simp only [after_cons, after_nil]; rfl
theorem labels_arg1 : after opsLabels V (main_arg1 : DevRef τ sig) = V (main_arg1 : DevRef τ sig) := by
  simp only [after_cons, after_nil]; rfl
theorem take_arg0 : after opsTake V (main_arg0 : DevRef τ sig) = V (main_arg0 : DevRef τ sig) := by
  simp only [after_cons, after_nil]; rfl
theorem take_arg1 : after opsTake V (main_arg1 : DevRef τ sig) = V (main_arg1 : DevRef τ sig) := by
  simp only [after_cons, after_nil]; rfl
theorem take_labels : after opsTake V (main_v14 : DevRef τ sig) = V (main_v14 : DevRef τ sig) := by
  simp only [after_cons, after_nil]; rfl
theorem loss_arg0 : after opsLoss V (main_arg0 : DevRef τ sig) = V (main_arg0 : DevRef τ sig) := by
  simp only [after_cons, after_nil]; rfl
theorem loss_arg1 : after opsLoss V (main_arg1 : DevRef τ sig) = V (main_arg1 : DevRef τ sig) := by
  simp only [after_cons, after_nil]; rfl
theorem loss_labels : after opsLoss V (main_v14 : DevRef τ sig) = V (main_v14 : DevRef τ sig) := by
  simp only [after_cons, after_nil]; rfl

/-! ### The whole line -/

theorem after_two (l₁ l₂ : List (HloOp τ sig (Elt F))) : after (l₁ ++ l₂) V = after l₂ (after l₁ V) := by
  induction l₁ generalizing V with
  | nil => rfl
  | cons o l ih => rw [List.cons_append, after_cons, after_cons, ih]

/-- The line is its stages one after another. -/
theorem after_ops : after ops V = after opsLoss (after opsTake (after opsLabels (after opsDist V))) := by
  rw [ops, after_two, after_two, after_two]

theorem after_labels : after ops V (main_v14 : DevRef τ sig)
    = labels (dist (V (main_arg0 : DevRef τ sig)) (V (main_arg1 : DevRef τ sig))) := by
  rw [after_ops, loss_labels, take_labels, labels_after, dist_after]

theorem after_loss : after ops V (main_v19 : DevRef τ sig)
    = meanSquare (V (main_arg0 : DevRef τ sig)) (taken (V (main_arg1 : DevRef τ sig))
        (labels (dist (V (main_arg0 : DevRef τ sig)) (V (main_arg1 : DevRef τ sig))))) := by
  rw [after_ops, loss_after, take_after, take_arg0, labels_after, labels_arg0, labels_arg1, dist_after, dist_arg0, dist_arg1]

theorem after_arg0 : after ops V (main_arg0 : DevRef τ sig) = V (main_arg0 : DevRef τ sig) := by
  rw [after_ops, loss_arg0, take_arg0, labels_arg0, dist_arg0]

theorem after_arg1 : after ops V (main_arg1 : DevRef τ sig) = V (main_arg1 : DevRef τ sig) := by
  rw [after_ops, loss_arg1, take_arg1, labels_arg1, dist_arg1]

/-- The run: every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq no_scoped_refs no_scoped_sems defs main (fun _ => ops) main_line (fun _ => ops_inside) m ρ

/-- The run read at the two results and the two arguments, with every counter at zero. -/
theorem run_values (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v14)
          = labels (dist (m ((c.tc : Thread nD τ).loc main_arg0)) (m ((c.tc : Thread nD τ).loc main_arg1)))
        ∧ r.2.mem ((c.tc : Thread nD τ).loc main_v19)
          = meanSquare (m ((c.tc : Thread nD τ).loc main_arg0)) (taken (m ((c.tc : Thread nD τ).loc main_arg1))
              (labels (dist (m ((c.tc : Thread nD τ).loc main_arg0)) (m ((c.tc : Thread nD τ).loc main_arg1)))))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v14).trans (after_labels _), (h c main_v19).trans (after_loss _),
      (h c main_arg0).trans (after_arg0 _), (h c main_arg1).trans (after_arg1 _)⟩,
      sem_eq_zero_of_no_sems (by decide) r.2⟩)
    (run_main m ρ)

end Cert.Ref

end
-- ==== Proof.First.lean ====
/- The first place of a least value: what a kernel's masked minimum computes and what a fold over pairs of a value and
   a place computes, both over finitely many real scores read as extended reals. -/
module

public import proofs.«01_k».proof.Proof.ReferenceRun
public import Idealize.ShloMosaic.Lib.Pointwise

@[expose] public section

noncomputable section

namespace Cert.First

open Idealize.ShloMosaic

/-- `k` is the first place at which `f` is least. -/
def IsFirst {n : ℕ} (f : Fin n → ℝ) (k : Fin n) : Prop := ∀ i, f k < f i ∨ (f k = f i ∧ k ≤ i)

theorem IsFirst.le {n : ℕ} {f : Fin n → ℝ} {k : Fin n} (h : IsFirst f k) (i : Fin n) : f k ≤ f i := by
  rcases h i with h | h
  · exact h.le
  · exact h.1.le

theorem IsFirst.place_le {n : ℕ} {f : Fin n → ℝ} {k : Fin n} (h : IsFirst f k) {i : Fin n} (hi : f i = f k) : k ≤ i := by
  rcases h i with h | h
  · exact absurd hi h.ne'
  · exact h.2

/-- Of two first places of one function there is only one. -/
theorem IsFirst.unique {n : ℕ} {f : Fin n → ℝ} {k l : Fin n} (hk : IsFirst f k) (hl : IsFirst f l) : k = l := by
  have e : f k = f l := le_antisymm (hk.le l) (hl.le k)
  exact le_antisymm (hk.place_le e.symm) (hl.place_le e)

/-- A common summand moves no first place. -/
theorem IsFirst.shift {n : ℕ} {f g : Fin n → ℝ} (a : ℝ) (hg : ∀ i, g i = a + f i) {k : Fin n} (h : IsFirst f k) :
    IsFirst g k := fun i => by
  rcases h i with h | h
  · left; rw [hg, hg]; linarith
  · right; exact ⟨by rw [hg, hg, h.1], h.2⟩

theorem exists_first {n : ℕ} (hn : 0 < n) (f : Fin n → ℝ) : ∃ k, IsFirst f k := by
  classical
  have hne : (Finset.univ : Finset (Fin n)).Nonempty := ⟨⟨0, hn⟩, Finset.mem_univ _⟩
  obtain ⟨m, -, hm⟩ := Finset.exists_min_image Finset.univ f hne
  obtain ⟨k, hk, hl⟩ := Finset.exists_min_image (Finset.univ.filter fun i => f i = f m) id
    ⟨m, Finset.mem_filter.2 ⟨Finset.mem_univ _, rfl⟩⟩
  refine ⟨k, fun i => ?_⟩
  have ek : f k = f m := (Finset.mem_filter.1 hk).2
  rcases (hm i (Finset.mem_univ _)).lt_or_eq with h | h
  · left; rw [ek]; exact h
  · right; exact ⟨ek.trans h, hl i (Finset.mem_filter.2 ⟨Finset.mem_univ _, h.symm⟩)⟩

/-- The first place at which `f` is least. -/
def first (f : Fin 1024 → ℝ) : Fin 1024 := (exists_first (by decide) f).choose

theorem first_spec (f : Fin 1024 → ℝ) : IsFirst f (first f) := (exists_first (by decide) f).choose_spec

theorem first_shift {f g : Fin 1024 → ℝ} (a : ℝ) (hg : ∀ i, g i = a + f i) : first g = first f :=
  (first_spec g).unique ((first_spec f).shift a hg)

/-! ### The kernel's two minima -/

/-- The minimum of the scores, from the top down, is the score at the first place. -/
theorem fold_least {n : ℕ} {f : Fin n → ℝ} {k : Fin n} (h : IsFirst f k) :
    Finset.fold min (⊤ : EReal) (fun x => (f x : EReal)) Finset.univ = (f k : EReal) := by
  apply le_antisymm
  · exact (Finset.fold_min_le _).2 (Or.inr ⟨k, Finset.mem_univ _, le_rfl⟩)
  · exact (Finset.le_fold_min _).2 ⟨le_top, fun x _ => EReal.coe_le_coe_iff.2 (h.le x)⟩

/-- The minimum of the places that attain the least score, every other place put at `N`, is the first place. -/
theorem fold_place {n : ℕ} {f : Fin n → ℝ} {k : Fin n} (h : IsFirst f k) (N : ℕ) (hN : n ≤ N) :
    Finset.fold min (⊤ : EReal)
      (fun x => if (f x : EReal) = (f k : EReal) then (((x : ℕ) : ℝ) : EReal) else ((N : ℝ) : EReal)) Finset.univ
      = (((k : ℕ) : ℝ) : EReal) := by
  apply le_antisymm
  · exact (Finset.fold_min_le _).2 (Or.inr ⟨k, Finset.mem_univ _, by rw [if_pos rfl]⟩)
  · refine (Finset.le_fold_min _).2 ⟨le_top, fun x _ => ?_⟩
    split_ifs with hx
    · exact EReal.coe_le_coe_iff.2 (Nat.cast_le.2 (Fin.le_def.1 (h.place_le (EReal.coe_eq_coe_iff.1 hx))))
    · exact EReal.coe_le_coe_iff.2 (Nat.cast_le.2 (k.isLt.le.trans hN))

/-! ### The fold over pairs of a score and a place -/

/-- A score and its place as the fold carries them. -/
def pair (f : Fin 1024 → ℝ) (k : Fin 1024) : Ideal .f32 × BitVec 32 := ((f k : EReal), BitVec.ofNat 32 k)

/-- A small number read as a word, then as a signed whole number. -/
theorem toInt_small (a : ℕ) (ha : a < 1024) : (BitVec.ofNat 32 a).toInt = (a : ℤ) := by
  have q : (BitVec.ofNat 32 a).toNat = a := by rw [BitVec.toNat_ofNat]; omega
  rw [BitVec.toInt_eq_toNat_of_lt (by omega), q]

theorem place_lt (i j : Fin 1024) :
    (BitVec.ofNat 32 (i : ℕ)).slt (BitVec.ofNat 32 (j : ℕ)) = decide (i < j) := by
  have hi := i.isLt
  have hj := j.isLt
  rw [BitVec.slt]
  rw [toInt_small _ hi, toInt_small _ hj]
  simp only [Nat.cast_lt, Fin.lt_def]

/-- One step of the fold between two places: the earlier in the order of (score, place). -/
theorem step (f : Fin 1024 → ℝ) (i j : Fin 1024) :
    Cert.ReferenceIdeal.reducer_argmin_f32_i32 (F := Ideal) (pair f i) (pair f j)
      = if f i < f j ∨ (f i = f j ∧ i < j) then pair f i else pair f j := by
  simp only [Cert.ReferenceIdeal.reducer_argmin_f32_i32, pair, Ideal.cmpf_def, Ideal.cmp, IntOp.cmpi, place_lt,
    EReal.coe_lt_coe_iff, EReal.coe_eq_coe_iff]
  by_cases h3 : i < j <;> rcases lt_trichotomy (f i) (f j) with h | h | h
  · simp [h, h.ne, h3, IntOp.ori, IntOp.andi, Scalar.select]
  · simp [h, h3, IntOp.ori, IntOp.andi, Scalar.select]
  · simp [h.ne', not_lt.2 h.le, h3, IntOp.ori, IntOp.andi, Scalar.select]
  · simp [h, h.ne, h3, IntOp.ori, IntOp.andi, Scalar.select]
  · simp [h, h3, IntOp.ori, IntOp.andi, Scalar.select]
  · simp [h.ne', not_lt.2 h.le, h3, IntOp.ori, IntOp.andi, Scalar.select]

/-- The first step, from the top value. -/
theorem step_top (f : Fin 1024 → ℝ) (j : Fin 1024) :
    Cert.ReferenceIdeal.reducer_argmin_f32_i32 (F := Ideal) ((⊤ : EReal), 0#32) (pair f j) = pair f j := by
  simp [Cert.ReferenceIdeal.reducer_argmin_f32_i32, pair, Ideal.cmpf_def, Ideal.cmp, IntOp.ori, IntOp.andi, Scalar.select]

/-- The fold over a list of places, from one of them: the first in the order of (score, place). -/
theorem fold_from (f : Fin 1024 → ℝ) (L : List (Fin 1024)) (a : Fin 1024) :
    ∃ m, (L.map (pair f)).foldl (Cert.ReferenceIdeal.reducer_argmin_f32_i32 (F := Ideal)) (pair f a) = pair f m
      ∧ ∀ i ∈ a :: L, f m < f i ∨ (f m = f i ∧ m ≤ i) := by
  induction L generalizing a with
  | nil => exact ⟨a, rfl, fun i hi => by rw [List.mem_singleton.1 hi]; exact Or.inr ⟨rfl, le_rfl⟩⟩
  | cons b L ih =>
    rw [List.map_cons, List.foldl_cons, step]
    split_ifs with h
    · obtain ⟨m, e, hm⟩ := ih a
      refine ⟨m, e, fun i hi => ?_⟩
      rcases List.mem_cons.1 hi with rfl | hi
      · exact hm _ (List.mem_cons_self ..)
      rcases List.mem_cons.1 hi with rfl | hi
      · rcases hm a (List.mem_cons_self ..) with q | q <;> rcases h with h | h
        · exact Or.inl (q.trans h)
        · exact Or.inl (h.1 ▸ q)
        · exact Or.inl (q.1 ▸ h)
        · exact Or.inr ⟨q.1.trans h.1, q.2.trans h.2.le⟩
      · exact hm _ (List.mem_cons_of_mem _ hi)
    · obtain ⟨m, e, hm⟩ := ih b
      refine ⟨m, e, fun i hi => ?_⟩
      rcases List.mem_cons.1 hi with rfl | hi
      · rw [not_or, not_and, not_lt] at h
        rcases hm b (List.mem_cons_self ..) with q | q <;> rcases h.1.lt_or_eq with h' | h'
        · exact Or.inl (q.trans h')
        · exact Or.inl (h' ▸ q)
        · exact Or.inl (q.1 ▸ h')
        · exact Or.inr ⟨q.1.trans h', q.2.trans (not_lt.1 (h.2 h'.symm))⟩
      · exact hm _ hi

/-- The fold over a list that holds every place, from the top value: the first place. -/
theorem fold_all (f : Fin 1024 → ℝ) (L : List (Fin 1024)) (hL : ∀ k, k ∈ L) :
    (L.map (pair f)).foldl (Cert.ReferenceIdeal.reducer_argmin_f32_i32 (F := Ideal)) ((⊤ : EReal), 0#32)
      = pair f (first f) := by
  cases L with
  | nil => exact absurd (hL 0) (List.not_mem_nil)
  | cons a L =>
    obtain ⟨m, e, hm⟩ := fold_from f L a
    rw [List.map_cons, List.foldl_cons, step_top, e]
    exact congrArg _ (IsFirst.unique (fun i => hm i (hL i)) (first_spec f))

end Cert.First

end
-- ==== Proof.Spec.lean ====
/- What both programs compute, over the reals: a row's scores against the centres, its first best centre, and the mean
   of the squared distances. Also the words of the programs' constants as numbers. -/
module

public import proofs.«01_k».proof.Proof.First

@[expose] public section

noncomputable section

namespace Cert.Spec

open Idealize.ShloMosaic Cert.First

/-- The sum of the squares of a row. -/
def sq (v : Fin 256 → ℝ) : ℝ := ∑ d, v d * v d

/-- The score of a row at a centre: the squared distance less the row's own square. -/
def score (c : Fin 1024 → Fin 256 → ℝ) (v : Fin 256 → ℝ) (k : Fin 1024) : ℝ :=
  ∑ d, c k d * -2 * v d + ∑ d, c k d * c k d

/-- The first centre of least score. -/
def near (c : Fin 1024 → Fin 256 → ℝ) (v : Fin 256 → ℝ) : Fin 1024 := first (score c v)

/-- The least score. -/
def best (c : Fin 1024 → Fin 256 → ℝ) (v : Fin 256 → ℝ) : ℝ := score c v (near c v)

theorem near_spec (c : Fin 1024 → Fin 256 → ℝ) (v : Fin 256 → ℝ) : IsFirst (score c v) (near c v) := first_spec _

/-- The squared distance of a row to a centre is the row's square and the score. -/
theorem distance (c : Fin 1024 → Fin 256 → ℝ) (v : Fin 256 → ℝ) (k : Fin 1024) :
    ∑ d, (v d - c k d) * (v d - c k d) = sq v + score c v k := by
  unfold sq score
  rw [← Finset.sum_add_distrib, ← Finset.sum_add_distrib]
  exact Finset.sum_congr rfl fun d _ => by ring

/-- The same, as the reference's table spells it. -/
theorem distance_table (c : Fin 1024 → Fin 256 → ℝ) (v : Fin 256 → ℝ) (k : Fin 1024) :
    ∑ d, v d * v d - 2 * ∑ d, v d * c k d + ∑ d, c k d * c k d = sq v + score c v k := by
  unfold sq score
  have e : ∑ d, c k d * -2 * v d = -(2 * ∑ d, v d * c k d) := by
    rw [Finset.mul_sum, ← Finset.sum_neg_distrib]
    exact Finset.sum_congr rfl fun d _ => by ring
  rw [e]
  ring

/-! ### Real sums and the constants, as extended reals -/

/-- A table whose entries are the reals `v`. -/
def Reads {n m : ℕ} (x : (⟨2, ![n, m]⟩ : Shape).Idx → EReal) (v : Fin n → Fin m → ℝ) : Prop :=
  ∀ r d, x (ix2 r d) = (v r d : EReal)

theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem word_inf : Ideal.ofBits .f32 0x7F800000#32 = ⊤ := by simp [Ideal.ofBits, Ideal.ieee]
theorem word_neg_two : Ideal.ofBits .f32 0xC0000000#32 = ((-2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_1024 : Ideal.ofBits .f32 0x44800000#32 = (((1024 : ℕ) : ℝ) : EReal) := by
  simp [Ideal.ofBits, Ideal.ieee, -EReal.coe_mul]; norm_num
theorem word_16384 : Ideal.ofBits .f32 0x46800000#32 = ((16384 : ℝ) : EReal) := by
  simp [Ideal.ofBits, Ideal.ieee, -EReal.coe_mul]; norm_num
theorem word_part : Ideal.ofBits .f32 0x38800000#32 = ((1 / 16384 : ℝ) : EReal) := by
  simp [Ideal.ofBits, Ideal.ieee, -EReal.coe_mul]; norm_num

theorem word_of_place (a : ℕ) : FloatOps.sitofp (F := Ideal) .f32 (BitVec.ofNat 32 a) = (((BitVec.ofNat 32 a).toInt : ℝ) : EReal) := rfl

theorem place_of_word (a : ℕ) (ha : a < 1024) :
    FloatOps.fptosi (F := Ideal) (φ := .f32) 32 (((a : ℕ) : ℝ) : EReal) = BitVec.ofNat 32 a := by
  show Ideal.fptosi 32 (((a : ℕ) : ℝ) : EReal) = _
  rw [Ideal.fptosi, Ideal.toIntClamped_coe, if_pos (Nat.cast_nonneg a), Int.floor_natCast]
  have : max (-((2 ^ (32 - 1) : ℕ) : ℤ)) (min (((2 ^ (32 - 1) : ℕ) : ℤ) - 1) (a : ℤ)) = (a : ℤ) := by
    norm_num
    omega
  rw [this]
  rfl

end Cert.Spec

end
-- ==== Proof.Finite.lean ====
/- What the precondition gives: both arguments are tables of reals. -/
module

public import proofs.«01_k».proof.Defs
public import proofs.«01_k».proof.Proof.Spec

@[expose] public section

set_option maxRecDepth 16384

noncomputable section

namespace Cert.Spec

open Idealize.ShloMosaic

/-- The shapes of the precondition's two comparisons. -/
theorem pre_facts : Cert.Pre_finite.Facts := ⟨by decide, by decide⟩

/-- A value whose size is below infinity is a real. -/
theorem real_of_abs (x : EReal) (h : max x (-x) < ⊤) : x = (x.toReal : EReal) := by
  refine (EReal.coe_toReal (fun e => ?_) (fun e => ?_)).symm <;> subst e <;> simp at h

/-- The comparison reads one at the values whose size is below infinity. -/
theorem abs_of_word (x : EReal) (h : FloatOps.cmpf (F := Ideal) (φ := .f32) .olt (max x (-x)) (Ideal.ofBits .f32 0x7F800000#32) = 1#1) :
    max x (-x) < ⊤ := by
  rw [word_inf, Ideal.cmpf_def] at h
  by_contra hn
  simp [Ideal.cmp, hn] at h

theorem reads_rows [Cert.Pre_finite.Facts] (e : FVec Ideal Cert.Pre_finite.S16384x256 .f32) (c : FVec Ideal Cert.Pre_finite.S1024x256 .f32)
    (h : (Cert.Pre_finite.fn (F := Ideal) e c).1 = fun _ => 1#1) :
    Reads (n := 16384) (m := 256) e fun r d => EReal.toReal (e (ix2 r d)) := fun r d =>
  real_of_abs _ (abs_of_word _ (congrFun h (ix2 r d)))

theorem reads_centres [Cert.Pre_finite.Facts] (e : FVec Ideal Cert.Pre_finite.S16384x256 .f32) (c : FVec Ideal Cert.Pre_finite.S1024x256 .f32)
    (h : (Cert.Pre_finite.fn (F := Ideal) e c).2 = fun _ => 1#1) :
    Reads (n := 1024) (m := 256) c fun k d => EReal.toReal (c (ix2 k d)) := fun k d =>
  real_of_abs _ (abs_of_word _ (congrFun h (ix2 k d)))

end Cert.Spec

end
-- ==== Proof.Block.lean ====
/- What one block of the kernel computes from real rows and real centres. -/
module

public import proofs.«01_k».proof.Proof.Gen.KernelIdeal.Frame
public import proofs.«01_k».proof.Proof.Spec
public import Idealize.ShloMosaic.Lib.Pointwise

@[expose] public section

set_option maxRecDepth 16384

noncomputable section

namespace Cert.Block

open Idealize.ShloMosaic Cert.First
open Cert.Spec hiding sq
open Cert.KernelIdeal Cert.KernelIdeal.Gen

variable {e : Vec Ideal S4096x256 .f32} {c : Vec Ideal S1024x256 .f32} {v : Fin 4096 → Fin 256 → ℝ} {cr : Fin 1024 → Fin 256 → ℝ}

/-- An entry of the block's table of scores. -/
theorem score_at (he : Reads e v) (hc : Reads c cr) (k : Fin 1024) (r : Fin 4096) :
    k0_pay1 (F := Ideal) e c (ix2 k r) = (score cr (v r) k : EReal) := by
  pointwise [k0_pay1]
  rw [word_neg_two]
  simp only [he _ _, hc _ _, ← EReal.coe_mul, ← coe_sum, ← EReal.coe_add]
  rfl

/-- A row's least score. -/
theorem best_at (he : Reads e v) (hc : Reads c cr) (z : Fin 1) (r : Fin 4096) :
    k0_pay2 (F := Ideal) e c (ix2 z r) = (best cr (v r) : EReal) := by
  pointwise [k0_pay2]
  rw [word_inf]
  simp only [score_at he hc]
  exact fold_least (near_spec _ _)

/-- A row's label. -/
theorem label_at (he : Reads e v) (hc : Reads c cr) (y z : Fin 1) (r : Fin 4096) :
    k0_pay3 (F := Ideal) e c (ix3 y z r) = BitVec.ofNat 32 (near cr (v r) : ℕ) := by
  pointwise [k0_pay3]
  rw [word_inf, word_1024]
  simp only [score_at he hc, best_at he hc]
  have hw : ∀ x : Fin 1024, (FloatOps.sitofp .f32 (BitVec.ofNat 32 (x : ℕ)) : Ideal .f32) = (((x : ℕ) : ℝ) : EReal) := fun x => by
    rw [word_of_place, toInt_small _ x.2]; rfl
  simp only [hw]
  have h := fold_place (near_spec cr (v r)) 1024 le_rfl
  refine (congrArg (FloatOps.fptosi (F := Ideal) (φ := .f32) 32) h).trans (place_of_word _ (Fin.isLt _))

/-- A block's share of the loss. -/
theorem part_at (he : Reads e v) (hc : Reads c cr) (x y z : Fin 1) :
    k0_pay4 (F := Ideal) e c (ix3 x y z) = (((∑ r, Spec.sq (v r) + ∑ r, best cr (v r)) * (1 / 16384) : ℝ) : EReal) := by
  pointwise [k0_pay4]
  rw [word_part]
  simp only [he _ _, best_at he hc, ← EReal.coe_mul, ← coe_sum, ← EReal.coe_add, Finset.univ_unique, Finset.sum_singleton]
  rfl

end Cert.Block

end
-- ==== Proof.Arrays.lean ====
/- The two arrays that the kernel's blocks fill, from real arguments: the labels block by block, and the blocks' shares
   of the loss. -/
module

public import proofs.«01_k».proof.Proof.Block
public import Idealize.ShloMosaic.Lib.Pipeline.ValueKit

@[expose] public section

set_option maxRecDepth 16384

noncomputable section

namespace Cert.Block

open Idealize.ShloMosaic Cert.First
open Cert.Spec hiding sq
open Cert.KernelIdeal Cert.KernelIdeal.Gen

/-- Row `r` of block `t`. -/
def row (t : Fin 4) (r : Fin 4096) : Fin 16384 := ⟨t * 4096 + r, by omega⟩

variable {m : (ℓ : Loc nD τ sig) → Buf (Elt Ideal) ℓ} {c : Dev nD} {er : Fin 16384 → Fin 256 → ℝ} {cr : Fin 1024 → Fin 256 → ℝ}

/-- The launch's rows. -/
abbrev rows (m : (ℓ : Loc nD τ sig) → Buf (Elt Ideal) ℓ) (c : Dev nD) : Vec Ideal S16384x256 .f32 := m ((c.tc : Thread nD τ).loc main_arg0)
/-- The launch's centres. -/
abbrev centres (m : (ℓ : Loc nD τ sig) → Buf (Elt Ideal) ℓ) (c : Dev nD) : Vec Ideal S1024x256 .f32 := m ((c.tc : Thread nD τ).loc main_arg1)

/-- The block's number. -/
def num (t : Fin cfg0.N) : Fin 4 := ⟨t, t.2.trans_eq N_0⟩

theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 ∧ win0_2.index t 2 = 0 := by decide +kernel
theorem idx_3 : ∀ t : Fin cfg0.N, win0_3.index t 0 = t.val ∧ win0_3.index t 1 = 0 ∧ win0_3.index t 2 = 0 := by decide +kernel

/-- A block of rows. -/
theorem rows_read (he : Reads (rows m c) er) (t : Fin cfg0.N) :
    Reads (n := 4096) (m := 256) (iblk m c 0 t) fun r => er (row (num t) r) := fun r d => by
  refine Eq.trans ?_ (he (row (num t) r) d)
  blk_ext [iblk, V, idx_0 t, row, num]

/-- The block of centres. -/
theorem centres_read (hc : Reads (centres m c) cr) (t : Fin cfg0.N) :
    Reads (n := 1024) (m := 256) (iblk m c 1 t) cr := fun k d => by
  refine Eq.trans ?_ (hc k d)
  blk_ext [iblk, V, idx_1 t]

/-- The array of labels after the run. -/
theorem labels_array (he : Reads (rows m c) er) (hc : Reads (centres m c) cr) :
    (dats m 0 c).arrAt 2 cfg0.N = fun i => BitVec.ofNat 32 (near cr (er (row (i 0) (i 2))) : ℕ) := by
  refine (dats m 0 c).arrAt_eq_of_covers 2 _ (by decide +kernel) fun t hf y => ?_
  blk_simp
  rw [after0_2]
  frame_out
  have hr : row (num t) (y 2) = row ((((cfg0.win 2).blk t).view.emb y) 0) ((((cfg0.win 2).blk t).view.emb y) 2) := by
    refine Fin.ext ?_
    show (num t : ℕ) * 4096 + _ = _ * 4096 + _
    blk_simp [idx_2 t, num]
  exact ((congrArg _ (eq_ix3 y)).trans (label_at (rows_read he t) (centres_read hc t) _ _ _)).trans
    (congrArg (fun q => BitVec.ofNat 32 (near cr (er q) : ℕ)) hr)

/-- A block's share of the loss. -/
def part (er : Fin 16384 → Fin 256 → ℝ) (cr : Fin 1024 → Fin 256 → ℝ) (t : Fin 4) : ℝ :=
  (∑ r, Spec.sq (er (row t r)) + ∑ r, best cr (er (row t r))) * (1 / 16384)

/-- The array of the blocks' shares after the run. -/
theorem parts_array (he : Reads (rows m c) er) (hc : Reads (centres m c) cr) :
    (dats m 0 c).arrAt 3 cfg0.N = fun i => ((part er cr (i 0) : ℝ) : EReal) := by
  refine (dats m 0 c).arrAt_eq_of_covers 3 _ (by decide +kernel) fun t hf y => ?_
  blk_simp
  rw [after0_3]
  frame_out
  have hr : num t = (((cfg0.win 3).blk t).view.emb y) 0 := by
    refine Fin.ext ?_
    blk_simp [idx_3 t, num]
  exact ((congrArg _ (eq_ix3 y)).trans (part_at (rows_read he t) (centres_read hc t) _ _ _)).trans
    (congrArg (fun q => ((part er cr q : ℝ) : EReal)) hr)

end Cert.Block

end
-- ==== Proof.KernelRun.lean ====
/- What the kernel's program leaves in its two results, from real arguments. -/
module

public import proofs.«01_k».proof.Proof.Arrays
public import Idealize.ShloMosaic.Lib.Claim

@[expose] public section

set_option maxRecDepth 16384

noncomputable section

namespace Cert.Block

open Idealize.ShloMosaic Cert.First Idealize.SL.Sem
open Cert.Spec hiding sq
open Cert.KernelIdeal Cert.KernelIdeal.Gen

/-- The labels laid out in one line. -/
theorem labels_line (G : S4x1x4096.Idx → BitVec 32) (er : Fin 16384 → Fin 256 → ℝ) (cr : Fin 1024 → Fin 256 → ℝ)
    (hG : G = fun i => BitVec.ofNat 32 (near cr (er (row (i 0) (i 2))) : ℕ)) (r : Fin 16384) :
    shapeCast S16384 G shapeCasts_S4x1x4096_S16384 (ix1 r) = BitVec.ofNat 32 (near cr (er r) : ℕ) := by
  pointwise
  subst hG
  exact congrArg (fun q => BitVec.ofNat 32 (near cr (er q) : ℕ)) (Fin.ext (Nat.div_add_mod' r 4096))

/-- The sum of the shares. -/
theorem loss_sum (G : S4x1x1.Idx → EReal) (er : Fin 16384 → Fin 256 → ℝ) (cr : Fin 1024 → Fin 256 → ℝ)
    (hG : G = fun i => ((part er cr (i 0) : ℝ) : EReal)) (j : S_.Idx) :
    Host.reduceAdd (F := Ideal) (φ := .f32) G (constant S_ .f32 0x00000000#32) reducesTo_S4x1x1_S_d0_1_2 h_S_ j
      = ((∑ t, part er cr t : ℝ) : EReal) := by
  pointwise
  subst hG
  simp only [Finset.univ_unique, Finset.sum_singleton, coe_sum]
  rfl

/-- The lines after the region leave the labels in one line. -/
theorem tail_labels (V : Valuation τ sig (Elt Ideal)) : StableHlo.after hostOps1 V (Proc.devRef .tc main_v1)
    = shapeCast (α := BitVec 32) S16384 (V (Proc.devRef .tc main_v0_0)) shapeCasts_S4x1x4096_S16384 := by
  simp only [StableHlo.after_cons, StableHlo.after_nil]; rfl

/-- The lines after the region leave the sum of the shares. -/
theorem tail_loss (V : Valuation τ sig (Elt Ideal)) : StableHlo.after hostOps1 V (Proc.devRef .tc main_v2)
    = Host.reduceAdd (F := Ideal) (φ := .f32) (V (Proc.devRef .tc main_v0_1)) (constant S_ .f32 0x00000000#32) reducesTo_S4x1x1_S_d0_1_2 h_S_ := by
  simp only [StableHlo.after_cons, StableHlo.after_nil]; rfl

theorem arr_inj : Function.Injective (Pipeline.arrRef spec0) := by decide

/-- The run read at the two results and the two arguments. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1)
          = (shapeCast (α := BitVec 32) S16384 ((dats m 0 c).arrAt 2 cfg0.N) shapeCasts_S4x1x4096_S16384)
        ∧ r.2.mem ((c.tc : Thread nD τ).loc main_v2)
          = Host.reduceAdd (F := Ideal) (φ := .f32) ((dats m 0 c).arrAt 3 cfg0.N) (constant S_ .f32 0x00000000#32) reducesTo_S4x1x1_S_d0_1_2 h_S_
        ∧ r.2.mem ((c.tc : Thread nD τ).loc main_arg0) = m ((c.tc : Thread nD τ).loc main_arg0)
        ∧ r.2.mem ((c.tc : Thread nD τ).loc main_arg1) = m ((c.tc : Thread nD τ).loc main_arg1) := by
  run_from run_main m ρ
  · exact (tail_labels _).trans (congrArg (fun G => shapeCast (α := BitVec 32) S16384 G shapeCasts_S4x1x4096_S16384)
      (Pipeline.withArrays_arr spec0 arr_inj c (V0 m c) _ 2))
  · exact (tail_loss _).trans (congrArg (fun G => Host.reduceAdd (F := Ideal) (φ := .f32) G (constant S_ .f32 0x00000000#32) reducesTo_S4x1x1_S_d0_1_2 h_S_)
      (Pipeline.withArrays_arr spec0 arr_inj c (V0 m c) _ 3))

end Cert.Block

end
-- ==== Proof.RefLabels.lean ====
/- The reference's labels: over a row of real scores, the first place of the least. -/
module

public import proofs.«01_k».proof.Proof.Spec

@[expose] public section

noncomputable section

namespace Cert.Ref

open Idealize.ShloMosaic Cert.First

/-- A table of `N` rows of 1024 scores, and its rows. -/
abbrev Table (N : ℕ) : Shape := ⟨2, ![N, 1024]⟩
abbrev Rows (N : ℕ) : Shape := ⟨1, ![N]⟩

/-- The entries the reduction of a table to its rows folds for row `r`, in order: the row's scores with their places. -/
theorem fiber_row {N : ℕ} (h : (Table N).ReducesTo [1] (Rows N)) (d : (Table N).Idx → Ideal .f32)
    (y : (Table N).Idx → BitVec 32) (hy : ∀ i, y i = BitVec.ofNat 32 (i 1).val) (r : Fin N) (f : Fin 1024 → ℝ)
    (hf : ∀ k, d (ix2 r k) = (f k : EReal)) :
    ∃ L : List (Fin 1024), (∀ k, k ∈ L) ∧ Host.argReduceFiber d y h (ix1 r) = L.map (pair f) := by
  have hdrop : ∀ i : (Table N).Idx, h.drop i = ix1 r ↔ i 0 = r := fun i => by
    have hv : (h.drop i 0 : ℕ) = i 0 := Shape.ReducesTo.drop_apply_val h i 0
    constructor
    · intro e
      exact Fin.ext (hv.symm.trans (congrArg (fun q : (Rows N).Idx => (q 0).val) e))
    · intro e
      funext a
      fin_cases a
      exact Fin.ext (hv.trans (congrArg Fin.val e))
  have hcol : ∀ i : (Table N).Idx, i 0 = r → i = ix2 r (i 1) := fun i e => by
    funext a
    fin_cases a
    · exact e
    · rfl
  let col : Fin (Table N).numel → Fin 1024 := fun n => (Table N).rowMajor.symm n 1
  refine ⟨((List.finRange (Table N).numel).filter fun n => h.drop ((Table N).rowMajor.symm n) = ix1 r).map col,
    fun k => ?_, ?_⟩
  · refine List.mem_map.2 ⟨(Table N).rowMajor (ix2 r k), List.mem_filter.2 ⟨List.mem_finRange _, ?_⟩, ?_⟩
    · rw [decide_eq_true_eq, Equiv.symm_apply_apply]
      exact (hdrop _).2 rfl
    · show (Table N).rowMajor.symm ((Table N).rowMajor (ix2 r k)) 1 = k
      rw [Equiv.symm_apply_apply]
      rfl
  · refine Eq.trans ?_ List.map_map.symm
    refine List.map_congr_left fun n hn => ?_
    have hd := (hdrop _).1 (of_decide_eq_true (List.mem_filter.1 hn).2)
    refine Prod.ext ?_ (hy _)
    exact (congrArg d (hcol _ hd)).trans (hf _)

/-- The fold a reduction to a first place is, when its start is the top value and place zero. -/
theorem place_of_row {N : ℕ} {u : Shape} (h : (Table N).ReducesTo [1] (Rows N)) (hu : 0 < u.numel)
    (d : (Table N).Idx → Ideal .f32) (y : (Table N).Idx → BitVec 32) (hy : ∀ i, y i = BitVec.ofNat 32 (i 1).val)
    (x0 : u.Idx → Ideal .f32) (hx0 : ∀ j, x0 j = (⊤ : EReal)) (y0 : u.Idx → BitVec 32) (hy0 : ∀ j, y0 j = 0#32)
    (r : Fin N) (f : Fin 1024 → ℝ) (hf : ∀ k, d (ix2 r k) = (f k : EReal)) :
    (Host.argReduce (F := Ideal) Cert.ReferenceIdeal.reducer_argmin_f32_i32 d y x0 y0 h hu (ix1 r)).2
      = BitVec.ofNat 32 (first f : ℕ) := by
  obtain ⟨L, hL, e⟩ := fiber_row h d y hy r f hf
  rw [Ideal.argReduce_eq_reduce2, Host.reduce2_eq_foldl_fiber, e, hx0, hy0]
  exact congrArg Prod.snd (fold_all f L hL)

open Cert.ReferenceIdeal Cert.ReferenceIdeal.Gen

theorem place_read (i : S16384x1024.Idx) : iotaInDim S16384x1024 32 1 i = BitVec.ofNat 32 (i 1).val := rfl
theorem start_read (j : S_.Idx) : constant (F := Ideal) S_ .f32 0x7F800000#32 j = (⊤ : EReal) := Cert.Spec.word_inf
theorem zero_read (j : S_.Idx) : constantI S_ 32 0#32 j = 0#32 := rfl

theorem labels_eq (d : FVec Ideal S16384x1024 .f32) : labels (F := Ideal) d = fun j =>
    (Host.argReduce (F := Ideal) reducer_argmin_f32_i32 d (iotaInDim S16384x1024 32 1) (constant S_ .f32 0x7F800000#32)
      (constantI S_ 32 0#32) reducesTo_S16384x1024_S16384_d1 h_S_ j).2 := rfl

/-- The label of a row of real scores is the first place of the least. -/
theorem labels_at (d : FVec Ideal S16384x1024 .f32) (r : Fin 16384) (f : Fin 1024 → ℝ)
    (hf : ∀ k, d (ix2 r k) = (f k : EReal)) : labels d (ix1 r) = BitVec.ofNat 32 (first f : ℕ) :=
  (congrFun (labels_eq d) (ix1 r)).trans
    (place_of_row reducesTo_S16384x1024_S16384_d1 h_S_ d (iotaInDim S16384x1024 32 1) place_read
      (constant S_ .f32 0x7F800000#32) start_read (constantI S_ 32 0#32) zero_read r f hf)

end Cert.Ref

end
-- ==== Proof.RefValue.lean ====
/- What the reference computes from real arguments: each row's label is its nearest centre's place, and the loss is the
   mean over the rows of the square and the least score. -/
module

public import proofs.«01_k».proof.Proof.RefLabels
public import Idealize.ShloMosaic.Lib.Routing.OpsPair
public import Idealize.ShloMosaic.Lib.Routing.Ops

@[expose] public section

set_option maxRecDepth 16384

noncomputable section

namespace Cert.Ref

open Idealize.ShloMosaic Cert.First
open Cert.Spec hiding sq
open Cert.ReferenceIdeal Cert.ReferenceIdeal.Gen

variable {e : FVec Ideal S16384x256 .f32} {c : FVec Ideal S1024x256 .f32} {er : Fin 16384 → Fin 256 → ℝ}
  {cr : Fin 1024 → Fin 256 → ℝ}

/-- An entry of the table of distances. -/
theorem dist_at (he : Reads e er) (hc : Reads c cr) (r : Fin 16384) (k : Fin 1024) :
    dist (F := Ideal) e c (ix2 r k) = ((Spec.sq (er r) + score cr (er r) k : ℝ) : EReal) := by
  pointwise [dist]
  rw [word_two, ← distance_table]
  simp only [he _ _, hc _ _, ← EReal.coe_mul, ← coe_sum, ← EReal.coe_sub, ← EReal.coe_add]

/-- A row's label. -/
theorem label_at (he : Reads e er) (hc : Reads c cr) (r : Fin 16384) :
    labels (F := Ideal) (dist e c) (ix1 r) = BitVec.ofNat 32 (near cr (er r) : ℕ) := by
  rw [labels_at _ r _ (dist_at he hc r)]
  exact congrArg (fun q : Fin 1024 => BitVec.ofNat 32 (q : ℕ)) (first_shift (Spec.sq (er r)) fun _ => rfl)

/-- A place inside the table is not wrapped. -/
theorem row_at (l : IVec S16384 32) (r : Fin 16384) (k : Fin 1024) (hl : l (ix1 r) = BitVec.ofNat 32 (k : ℕ)) (z : Fin 1) :
    rowsOf l (ix2 r z) = BitVec.ofNat 32 (k : ℕ) := by
  pointwise [rowsOf]
  rw [hl]
  exact Routing.wrap_of_lt _ _ (by rw [BitVec.toNat_ofNat]; omega)

/-- A place inside the table passes both bounds. -/
theorem bounds (k : Fin 1024) :
    IntOp.andi (IntOp.cmpi .sge (BitVec.ofNat 32 (k : ℕ)) 0#32) (IntOp.cmpi .sle (BitVec.ofNat 32 (k : ℕ)) 1023#32) = 1#1 := by
  have h := toInt_small k k.2
  have h0 : (0#32).sle (BitVec.ofNat 32 (k : ℕ)) = true := by
    rw [BitVec.sle_iff_toInt_le, h]; simp
  have h1 : (BitVec.ofNat 32 (k : ℕ)).sle 1023#32 = true := by
    rw [BitVec.sle_iff_toInt_le, h, show (1023#32).toInt = 1023 by decide]; omega
  simp [IntOp.cmpi, IntOp.andi, h0, h1]

/-- The mask of a row whose place is inside the table. -/
theorem inside_at (i : IVec S16384x1 32) (r : Fin 16384) (k : Fin 1024) (hi : ∀ z, i (ix2 r z) = BitVec.ofNat 32 (k : ℕ)) :
    inside i (ix1 r) = 1#1 := by
  pointwise [inside]
  simp only [hi, bounds]
  rw [Finset.univ_unique, Finset.fold_singleton]
  rfl

/-- A row whose label is a centre's place takes that centre. -/
theorem taken_at (l : IVec S16384 32) (r : Fin 16384) (k : Fin 1024) (hl : l (ix1 r) = BitVec.ofNat 32 (k : ℕ)) (d : Fin 256) :
    taken (F := Ideal) c l (ix2 r d) = c (ix2 k d) := by
  have hr := row_at l r k hl
  have hg : Host.gather gather_S1024x256_S16384x1_S16384x256_1_0_n_n_0_1_1256 c (rowsOf l) (ix2 r d) = c (ix2 k d) := by
    have hr := hr 0
    rw [ix2_eq_valueIdx] at hr
    rw [ix2_eq_valueIdx, ix2_eq_valueIdx]
    exact Routing.gather_row _ rfl rfl rfl rfl rfl c (rowsOf l) r d k hr (by decide)
  have hm := inside_at _ r k hr
  pointwise [taken]
  rw [hm, hg]
  rfl

/-- The loss. -/
theorem loss_at (he : Reads e er) (hc : Reads c cr) (j : S_.Idx) :
    meanSquare (F := Ideal) e (taken c (labels (dist e c))) j
      = (((∑ r, (Spec.sq (er r) + best cr (er r))) * (1 / 16384) : ℝ) : EReal) := by
  pointwise [meanSquare]
  rw [word_16384, Ideal.div_coe (by norm_num)]
  simp only [taken_at _ _ _ (label_at he hc _), he _ _, hc _ _, ← EReal.coe_sub, ← EReal.coe_mul, ← coe_sum, distance]
  rfl

end Cert.Ref

end
-- ==== Proof.Same.lean ====
/- The two programs' results are the same: the labels entry by entry, and the loss as a sum over the blocks. -/
module

public import proofs.«01_k».proof.Proof.KernelRun
public import proofs.«01_k».proof.Proof.RefValue

@[expose] public section

set_option maxRecDepth 16384

noncomputable section

namespace Cert.Same

open Idealize.ShloMosaic Cert.First
open Cert.Spec hiding sq
open Cert.Block (row part)

variable {er : Fin 16384 → Fin 256 → ℝ} {cr : Fin 1024 → Fin 256 → ℝ}

/-- The rows are the blocks' rows. -/
theorem sum_rows (f : Fin 16384 → ℝ) : ∑ r, f r = ∑ t : Fin 4, ∑ r : Fin 4096, f (row t r) := by
  rw [← Fintype.sum_prod_type', ← (finProdFinEquiv (m := 4) (n := 4096)).sum_comp]
  refine Finset.sum_congr rfl fun x _ => congrArg f (Fin.ext ?_)
  show (x.2 : ℕ) + 4096 * x.1 = x.1 * 4096 + x.2
  omega

/-- The blocks' shares make up the loss. -/
theorem sum_parts : ∑ t, part er cr t = (∑ r, (Spec.sq (er r) + best cr (er r))) * (1 / 16384) := by
  rw [sum_rows, Finset.sum_mul]
  refine Finset.sum_congr rfl fun t _ => ?_
  rw [part, Finset.sum_add_distrib]

variable {e : FVec Ideal Cert.ReferenceIdeal.S16384x256 .f32} {c : FVec Ideal Cert.ReferenceIdeal.S1024x256 .f32}

/-- The labels. -/
theorem labels_same (he : Reads e er) (hc : Reads c cr) (G : Cert.KernelIdeal.S4x1x4096.Idx → BitVec 32)
    (hG : G = fun i => BitVec.ofNat 32 (near cr (er (row (i 0) (i 2))) : ℕ)) :
    Cert.Ref.labels (F := Ideal) (Cert.Ref.dist e c)
      = shapeCast Cert.KernelIdeal.S16384 G Cert.KernelIdeal.Gen.shapeCasts_S4x1x4096_S16384 := by
  funext i
  rw [eq_ix1 i]
  exact (Cert.Ref.label_at he hc _).trans (Cert.Block.labels_line G er cr hG _).symm

/-- The loss. -/
theorem loss_same (he : Reads e er) (hc : Reads c cr) (G : Cert.KernelIdeal.S4x1x1.Idx → EReal)
    (hG : G = fun i => ((part er cr (i 0) : ℝ) : EReal)) :
    Cert.Ref.meanSquare (F := Ideal) e (Cert.Ref.taken c (Cert.Ref.labels (Cert.Ref.dist e c)))
      = Host.reduceAdd (F := Ideal) (φ := .f32) G (constant Cert.KernelIdeal.S_ .f32 0x00000000#32)
          Cert.KernelIdeal.Gen.reducesTo_S4x1x1_S_d0_1_2 Cert.KernelIdeal.Gen.h_S_ :=
  funext fun j => ((Cert.Ref.loss_at he hc j).trans (congrArg _ sum_parts.symm)).trans (Cert.Block.loss_sum G er cr hG j).symm

end Cert.Same

end
-- ==== Proof.lean ====
/- The claims about the kernel and the reference, put together: the frames of the generated modules, the reference's own
   run, and the equality of the two programs' results over the reals. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.ReferenceRun
public import proofs.«01_k».proof.Proof.Finite
public import proofs.«01_k».proof.Proof.Same
public import Idealize.ShloMosaic.Adequacy
public import Idealize.ShloMosaic.Init

@[expose] public section

set_option maxRecDepth 16384

noncomputable section

namespace Cert.Proof

open Idealize.ShloMosaic Idealize.SL.Sem

/-- The reference ends with its arguments kept and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0 :=
  (θ_run _ _ _).mono (fun _ h => ⟨fun c => (h.1 c).2.2, h.2⟩) (Cert.Ref.run_values m g)

/-- The reference's labels at the kernel's arguments. -/
theorem labels_at_launch (m : (ℓ : Loc Cert.KernelIdeal.nD Cert.KernelIdeal.τ Cert.KernelIdeal.sig) → Buf (Elt Ideal) ℓ)
    (c : Dev Cert.KernelIdeal.nD) (hpre : Cert.Pre_KernelIdeal_finite (hPre_finite := Cert.Spec.pre_facts) m) :
    Cert.Ref.labels (F := Ideal) (Cert.Ref.dist (F := Ideal) (Cert.Block.rows m c) (Cert.Block.centres m c))
      = shapeCast (α := BitVec 32) Cert.KernelIdeal.S16384 ((Cert.KernelIdeal.Gen.dats m 0 c).arrAt 2 Cert.KernelIdeal.cfg0.N)
          Cert.KernelIdeal.Gen.shapeCasts_S4x1x4096_S16384 := by
  letI := Cert.Spec.pre_facts
  have he := Cert.Spec.reads_rows (Cert.Block.rows m c) (Cert.Block.centres m c) (hpre c).1
  have hc := Cert.Spec.reads_centres (Cert.Block.rows m c) (Cert.Block.centres m c) (hpre c).2
  have hG := Cert.Block.labels_array he hc
  have same := Cert.Same.labels_same he hc _ hG
  exact same

/-- The reference's loss at the kernel's arguments. -/
theorem loss_at_launch (m : (ℓ : Loc Cert.KernelIdeal.nD Cert.KernelIdeal.τ Cert.KernelIdeal.sig) → Buf (Elt Ideal) ℓ)
    (c : Dev Cert.KernelIdeal.nD) (hpre : Cert.Pre_KernelIdeal_finite (hPre_finite := Cert.Spec.pre_facts) m) :
    Cert.Ref.meanSquare (F := Ideal) (Cert.Block.rows m c) (Cert.Ref.taken (F := Ideal) (Cert.Block.centres m c)
        (Cert.Ref.labels (F := Ideal) (Cert.Ref.dist (F := Ideal) (Cert.Block.rows m c) (Cert.Block.centres m c))))
      = Host.reduceAdd (F := Ideal) (φ := .f32) ((Cert.KernelIdeal.Gen.dats m 0 c).arrAt 3 Cert.KernelIdeal.cfg0.N)
          (constant Cert.KernelIdeal.S_ .f32 0x00000000#32) Cert.KernelIdeal.Gen.reducesTo_S4x1x1_S_d0_1_2 Cert.KernelIdeal.Gen.h_S_ := by
  letI := Cert.Spec.pre_facts
  have he := Cert.Spec.reads_rows (Cert.Block.rows m c) (Cert.Block.centres m c) (hpre c).1
  have hc := Cert.Spec.reads_centres (Cert.Block.rows m c) (Cert.Block.centres m c) (hpre c).2
  have hG := Cert.Block.parts_array he hc
  have same := Cert.Same.loss_same he hc _ hG
  exact same

/-- From finite arguments, the kernel's program and the reference leave the same labels and the same loss. -/
theorem same_results : Cert.algebraic_KernelIdeal_ReferenceIdeal_pre_finite (hKernelIdeal := Cert.KernelIdeal.Gen.facts)
    (hReferenceIdeal := Cert.ReferenceIdeal.Gen.facts) (hPre_finite := Cert.Spec.pre_facts) := by
  intro m g m' g' hpre hagree
  refine ⟨fun c => shapeCast (α := BitVec 32) Cert.KernelIdeal.S16384 ((Cert.KernelIdeal.Gen.dats m 0 c).arrAt 2 Cert.KernelIdeal.cfg0.N)
      Cert.KernelIdeal.Gen.shapeCasts_S4x1x4096_S16384,
    fun c => Host.reduceAdd (F := Ideal) (φ := .f32) ((Cert.KernelIdeal.Gen.dats m 0 c).arrAt 3 Cert.KernelIdeal.cfg0.N)
      (constant Cert.KernelIdeal.S_ .f32 0x00000000#32) Cert.KernelIdeal.Gen.reducesTo_S4x1x1_S_d0_1_2 Cert.KernelIdeal.Gen.h_S_,
    Cert.Block.run_values m g, (θ_run _ _ _).mono (fun r h c => ?_) (Cert.Ref.run_values m' g')⟩
  obtain ⟨hl, hs, h0, h1⟩ := h.1 c
  obtain ⟨a0, a1⟩ := hagree c
  rw [a0, a1] at hl hs
  exact ⟨hl.trans (labels_at_launch m c hpre), hs.trans (loss_at_launch m c hpre), h0, h1⟩

theorem claim : Cert.Claim :=
  ⟨Cert.Kernel.Gen.facts, Cert.KernelIdeal.Gen.facts, Cert.ReferenceIdeal.Gen.facts, Cert.Spec.pre_facts,
    fun m g _ => Cert.Kernel.Gen.frame m g, fun m g _ => Cert.KernelIdeal.Gen.frame m g, fun m g _ => Cert.KernelIdeal.Gen.frame m g,
    fun m g _ => reference_frame m g, fun m g _ => reference_frame m g, trivial, same_results⟩

end Cert.Proof

end
